-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x7168 : Shape := ⟨3, ![3, 512, 7168]⟩
abbrev S3584x18432 : Shape := ⟨2, ![3584, 18432]⟩
abbrev S56x18432 : Shape := ⟨2, ![56, 18432]⟩
abbrev S7168x64 : Shape := ⟨2, ![7168, 64]⟩
abbrev S64x18432 : Shape := ⟨2, ![64, 18432]⟩
abbrev S18432 : Shape := ⟨1, ![18432]⟩
abbrev S1536x7168 : Shape := ⟨2, ![1536, 7168]⟩
abbrev S1x18432 : Shape := ⟨2, ![1, 18432]⟩
abbrev S1536x18432 : Shape := ⟨2, ![1536, 18432]⟩
abbrev S3584x256 : Shape := ⟨2, ![3584, 256]⟩
abbrev S56x256 : Shape := ⟨2, ![56, 256]⟩
abbrev S64x256 : Shape := ⟨2, ![64, 256]⟩
abbrev S1x256 : Shape := ⟨2, ![1, 256]⟩
abbrev S1536x256 : Shape := ⟨2, ![1536, 256]⟩
abbrev S7168x256 : Shape := ⟨2, ![7168, 256]⟩
abbrev S8x256 : Shape := ⟨2, ![8, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S256x64 : Shape := ⟨2, ![256, 64]⟩
abbrev S32x8x256 : Shape := ⟨3, ![32, 8, 256]⟩
abbrev S256 : Shape := ⟨1, ![256]⟩
abbrev S3x512x18432 : Shape := ⟨3, ![3, 512, 18432]⟩

abbrev nBuf : Space → Nat
  | .hbm => 12
  | .vmem => 15
  | .smem => 0
  | _ => 0

abbrev bufTy : (tb : Table) → Fin (tcTables nBuf tb) → BufTy
  | .hbm, ⟨0, _⟩ => ⟨S3x512x7168, .bf16⟩
  | .hbm, ⟨1, _⟩ => ⟨S3584x18432, .i8⟩
  | .hbm, ⟨2, _⟩ => ⟨S56x18432, .bf16⟩
  | .hbm, ⟨3, _⟩ => ⟨S7168x64, .bf16⟩
  | .hbm, ⟨4, _⟩ => ⟨S64x18432, .bf16⟩
  | .hbm, ⟨5, _⟩ => ⟨S18432, .f32⟩
  | .hbm, ⟨6, _⟩ => ⟨S1536x7168, .bf16⟩
  | .hbm, ⟨7, _⟩ => ⟨S1x18432, .f32⟩
  | .hbm, ⟨8, _⟩ => ⟨S1536x18432, .bf16⟩
  | .hbm, ⟨9, _⟩ => ⟨S1x18432, .f32⟩
  | .hbm, ⟨10, _⟩ => ⟨S3x512x18432, .bf16⟩
  | .hbm, ⟨11, _⟩ => ⟨S18432, .f32⟩
  | .local _ .vmem, ⟨0, _⟩ => ⟨S1536x7168, .bf16⟩
  | .local _ .vmem, ⟨1, _⟩ => ⟨S3584x256, .i8⟩
  | .local _ .vmem, ⟨2, _⟩ => ⟨S3584x256, .i8⟩
  | .local _ .vmem, ⟨3, _⟩ => ⟨S56x256, .bf16⟩
  | .local _ .vmem, ⟨4, _⟩ => ⟨S56x256, .bf16⟩
  | .local _ .vmem, ⟨5, _⟩ => ⟨S7168x64, .bf16⟩
  | .local _ .vmem, ⟨6, _⟩ => ⟨S64x256, .bf16⟩
  | .local _ .vmem, ⟨7, _⟩ => ⟨S64x256, .bf16⟩
  | .local _ .vmem, ⟨8, _⟩ => ⟨S1x256, .f32⟩
  | .local _ .vmem, ⟨9, _⟩ => ⟨S1x256, .f32⟩
  | .local _ .vmem, ⟨10, _⟩ => ⟨S1536x256, .bf16⟩
  | .local _ .vmem, ⟨11, _⟩ => ⟨S1536x256, .bf16⟩
  | .local _ .vmem, ⟨12, _⟩ => ⟨S1x256, .f32⟩
  | .local _ .vmem, ⟨13, _⟩ => ⟨S1x256, .f32⟩
  | .local _ .vmem, ⟨14, _⟩ => ⟨S7168x256, .bf16⟩
  | _, _ => ⟨S3x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7168x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x512x7168 : Shape := ⟨3, ![3, 512, 7168]⟩
abbrev S3584x18432 : Shape := ⟨2, ![3584, 18432]⟩
abbrev S56x18432 : Shape := ⟨2, ![56, 18432]⟩
abbrev S7168x64 : Shape := ⟨2, ![7168, 64]⟩
abbrev S64x18432 : Shape := ⟨2, ![64, 18432]⟩
abbrev S18432 : Shape := ⟨1, ![18432]⟩
abbrev S_ : Shape := ⟨0, ![]⟩
abbrev S56x64x18432 : Shape := ⟨3, ![56, 64, 18432]⟩
abbrev S3584x64 : Shape := ⟨2, ![3584, 64]⟩
abbrev S3x512x3584 : Shape := ⟨3, ![3, 512, 3584]⟩
abbrev S3x512x18432 : Shape := ⟨3, ![3, 512, 18432]⟩
abbrev S1x1x18432 : Shape := ⟨3, ![1, 1, 18432]⟩

abbrev nBuf : Space → Nat
  | .hbm => 74
  | .vmem => 0
  | .smem => 0
  | _ => 0

abbrev bufTy : (tb : Table) → Fin (tcTables nBuf tb) → BufTy
  | .hbm, ⟨0, _⟩ => ⟨S3x512x7168, .bf16⟩
  | .hbm, ⟨1, _⟩ => ⟨S3584x18432, .i8⟩
  | .hbm, ⟨2, _⟩ => ⟨S56x18432, .bf16⟩
  | .hbm, ⟨3, _⟩ => ⟨S7168x64, .bf16⟩
  | .hbm, ⟨4, _⟩ => ⟨S64x18432, .bf16⟩
  | .hbm, ⟨5, _⟩ => ⟨S18432, .f32⟩
  | .hbm, ⟨6, _⟩ => ⟨S3584x18432, .i32⟩
  | .hbm, ⟨7, _⟩ => ⟨S_, .i32⟩
  | .hbm, ⟨8, _⟩ => ⟨S3584x18432, .i32⟩
  | .hbm, ⟨9, _⟩ => ⟨S3584x18432, .i32⟩
  | .hbm, ⟨10, _⟩ => ⟨S_, .i32⟩
  | .hbm, ⟨11, _⟩ => ⟨S3584x18432, .i32⟩
  | .hbm, ⟨12, _⟩ => ⟨S3584x18432, .i1⟩
  | .hbm, ⟨13, _⟩ => ⟨S_, .i32⟩
  | .hbm, ⟨14, _⟩ => ⟨S3584x18432, .i32⟩
  | .hbm, ⟨15, _⟩ => ⟨S3584x18432, .i32⟩
  | .hbm, ⟨16, _⟩ => ⟨S3584x18432, .i32⟩
  | .hbm, ⟨17, _⟩ => ⟨S_, .i32⟩
  | .hbm, ⟨18, _⟩ => ⟨S3584x18432, .i32⟩
  | .hbm, ⟨19, _⟩ => ⟨S3584x18432, .i32⟩
  | .hbm, ⟨20, _⟩ => ⟨S_, .i32⟩
  | .hbm, ⟨21, _⟩ => ⟨S3584x18432, .i32⟩
  | .hbm, ⟨22, _⟩ => ⟨S3584x18432, .i1⟩
  | .hbm, ⟨23, _⟩ => ⟨S_, .i32⟩
  | .hbm, ⟨24, _⟩ => ⟨S3584x18432, .i32⟩
  | .hbm, ⟨25, _⟩ => ⟨S3584x18432, .i32⟩
  | .hbm, ⟨26, _⟩ => ⟨S3584x18432, .i32⟩
  | .hbm, ⟨27, _⟩ => ⟨S56x64x18432, .bf16⟩
  | .hbm, ⟨28, _⟩ => ⟨S3584x18432, .bf16⟩
  | .hbm, ⟨29, _⟩ => ⟨S3584x64, .bf16⟩
  | .hbm, ⟨30, _⟩ => ⟨S3584x18432, .bf16⟩
  | .hbm, ⟨31, _⟩ => ⟨S3584x18432, .bf16⟩
  | .hbm, ⟨32, _⟩ => ⟨S3584x18432, .f32⟩
  | .hbm, ⟨33, _⟩ => ⟨S3584x18432, .f32⟩
  | .hbm, ⟨34, _⟩ => ⟨S_, .f32⟩
  | .hbm, ⟨35, _⟩ => ⟨S3584x18432, .f32⟩
  | .hbm, ⟨36, _⟩ => ⟨S3584x18432, .f32⟩
  | .hbm, ⟨37, _⟩ => ⟨S3584x18432, .f32⟩
  | .hbm, ⟨38, _⟩ => ⟨S3584x64, .bf16⟩
  | .hbm, ⟨39, _⟩ => ⟨S3584x18432, .bf16⟩
  | .hbm, ⟨40, _⟩ => ⟨S3584x18432, .bf16⟩
  | .hbm, ⟨41, _⟩ => ⟨S3584x18432, .f32⟩
  | .hbm, ⟨42, _⟩ => ⟨S3584x18432, .f32⟩
  | .hbm, ⟨43, _⟩ => ⟨S_, .f32⟩
  | .hbm, ⟨44, _⟩ => ⟨S3584x18432, .f32⟩
  | .hbm, ⟨45, _⟩ => ⟨S3584x18432, .f32⟩
  | .hbm, ⟨46, _⟩ => ⟨S3584x18432, .f32⟩
  | .hbm, ⟨47, _⟩ => ⟨S3584x18432, .f32⟩
  | .hbm, ⟨48, _⟩ => ⟨S_, .f32⟩
  | .hbm, ⟨49, _⟩ => ⟨S18432, .f32⟩
  | .hbm, ⟨50, _⟩ => ⟨S3584x18432, .f32⟩
  | .hbm, ⟨51, _⟩ => ⟨S_, .f32⟩
  | .hbm, ⟨52, _⟩ => ⟨S18432, .f32⟩
  | .hbm, ⟨53, _⟩ => ⟨S18432, .f32⟩
  | .hbm, ⟨54, _⟩ => ⟨S18432, .f32⟩
  | .hbm, ⟨55, _⟩ => ⟨S3x512x3584, .bf16⟩
  | .hbm, ⟨56, _⟩ => ⟨S3584x18432, .bf16⟩
  | .hbm, ⟨57, _⟩ => ⟨S3x512x18432, .f32⟩
  | .hbm, ⟨58, _⟩ => ⟨S3x512x3584, .bf16⟩
  | .hbm, ⟨59, _⟩ => ⟨S3584x18432, .bf16⟩
  | .hbm, ⟨60, _⟩ => ⟨S3x512x18432, .f32⟩
  | .hbm, ⟨61, _⟩ => ⟨S3x512x18432, .f32⟩
  | .hbm, ⟨62, _⟩ => ⟨S_, .f32⟩
  | .hbm, ⟨63, _⟩ => ⟨S18432, .f32⟩
  | .hbm, ⟨64, _⟩ => ⟨S18432, .i1⟩
  | .hbm, ⟨65, _⟩ => ⟨S_, .f32⟩
  | .hbm, ⟨66, _⟩ => ⟨S_, .f32⟩
  | .hbm, ⟨67, _⟩ => ⟨S18432, .f32⟩
  | .hbm, ⟨68, _⟩ => ⟨S18432, .f32⟩
  | .hbm, ⟨69, _⟩ => ⟨S18432, .f32⟩
  | .hbm, ⟨70, _⟩ => ⟨S1x1x18432, .f32⟩
  | .hbm, ⟨71, _⟩ => ⟨S3x512x18432, .f32⟩
  | .hbm, ⟨72, _⟩ => ⟨S3x512x18432, .f32⟩
  | .hbm, ⟨73, _⟩ => ⟨S3x512x18432, .bf16⟩
  | _, _ => ⟨S3x512x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Spec.lean ====
/- The mathematics of the problem, over the extended reals, with no program in sight.

   A packed byte holds two signed 4-bit codes: the low half is the code of an even row of the weight, the high half the
   code of the odd row after it. A code times the scale of its group of 128 rows, plus twice the product of the two
   low-rank factors, is the weight `weight`. `norm` is the length of a column of the weight. `dora` is a row of the
   activations times a column of the weight, times the column's magnitude over its length.

   The number `N` of columns is a parameter: a column of each result depends on that column of the operands alone, so the
   same functions describe the whole arrays and a block of their columns. -/
module

public import Idealize.ShloMosaic.Lib.Pointwise

@[expose] public section

noncomputable section

namespace Cert.Spec

open Idealize.ShloMosaic

/-- The signed 4-bit code in the low (`p = 0`) or high (`p = 1`) half of a byte. -/
def code (b : BitVec 8) (p : ℕ) : BitVec 4 := (b >>> (4 * p)).setWidth 4

/-- Row `k`, column `n` of the weight: code times scale, plus twice the low-rank product. -/
def weight {N : ℕ} (codes : (⟨2, ![3584, N]⟩ : Shape).Idx → BitVec 8) (scales : (⟨2, ![56, N]⟩ : Shape).Idx → EReal)
    (a : (⟨2, ![7168, 64]⟩ : Shape).Idx → EReal) (b : (⟨2, ![64, N]⟩ : Shape).Idx → EReal) (k : Fin 7168) (n : Fin N) : EReal :=
  (((code (codes (ix2 ⟨k.val / 2, by omega⟩ n)) (k.val % 2)).toInt : ℝ) : EReal) * scales (ix2 ⟨k.val / 128, by omega⟩ n)
    + Ideal.ofBits .f32 0x40000000#32 * ∑ r : Fin 64, a (ix2 k r) * b (ix2 r n)

/-- The length of column `n` of the weight. -/
def norm {N : ℕ} (w : Fin 7168 → Fin N → EReal) (n : Fin N) : EReal :=
  Ideal.sqrt (∑ k : Fin 7168, w k n * w k n)

/-- Token `t`, column `n` of the layer's output: the activations times the weight, times magnitude over length (over one
    where the length is not positive). -/
def dora {N : ℕ} (w : Fin 7168 → Fin N → EReal) (x : Fin 7168 → EReal) (mag : EReal) (n : Fin N) : EReal :=
  (∑ k : Fin 7168, x k * w k n) * Ideal.div mag (if 0 < norm w n then norm w n else 1)

/-! ## A column of the result depends on that column of the operands alone -/

theorem weight_congr {N N' : ℕ} {codes : (⟨2, ![3584, N]⟩ : Shape).Idx → BitVec 8} {codes' : (⟨2, ![3584, N']⟩ : Shape).Idx → BitVec 8}
    {scales : (⟨2, ![56, N]⟩ : Shape).Idx → EReal} {scales' : (⟨2, ![56, N']⟩ : Shape).Idx → EReal}
    {a a' : (⟨2, ![7168, 64]⟩ : Shape).Idx → EReal} {b : (⟨2, ![64, N]⟩ : Shape).Idx → EReal}
    {b' : (⟨2, ![64, N']⟩ : Shape).Idx → EReal} {n : Fin N} {n' : Fin N'} (hc : ∀ r, codes (ix2 r n) = codes' (ix2 r n'))
    (hs : ∀ r, scales (ix2 r n) = scales' (ix2 r n')) (ha : ∀ k r, a (ix2 k r) = a' (ix2 k r))
    (hb : ∀ r, b (ix2 r n) = b' (ix2 r n')) (k : Fin 7168) :
    weight codes scales a b k n = weight codes' scales' a' b' k n' := by
  unfold weight
  simp only [hc, hs, ha, hb]

theorem norm_congr {N N' : ℕ} {w : Fin 7168 → Fin N → EReal} {w' : Fin 7168 → Fin N' → EReal} {n : Fin N} {n' : Fin N'}
    (h : ∀ k, w k n = w' k n') : norm w n = norm w' n' := by
  unfold norm
  simp only [h]

theorem dora_congr {N N' : ℕ} {w : Fin 7168 → Fin N → EReal} {w' : Fin 7168 → Fin N' → EReal} {x x' : Fin 7168 → EReal}
    {mag mag' : EReal} {n : Fin N} {n' : Fin N'} (h : ∀ k, w k n = w' k n') (hx : ∀ k, x k = x' k) (hm : mag = mag') :
    dora w x mag n = dora w' x' mag' n' := by
  unfold dora
  simp only [h, hx, hm, norm_congr h]

end Cert.Spec

end
-- ==== Proof.Facts.lean ====
/- Facts about sums and about packed bytes that both programs need.

   The reference sums the even and the odd rows of the weight apart; the kernel sums the rows in 28 chunks of 32 groups of
   8. Both are the sum over all 7168 rows. And both programs decode a packed byte to the codes of `Spec.code`: the
   reference by comparing with 8 and subtracting 16, the kernel by keeping the low four bits of a word. -/
module

public import proofs.«01_k».proof.Proof.Spec

@[expose] public section

noncomputable section

namespace Cert.Spec

open Idealize.ShloMosaic

/-! ## Sums over the rows -/

/-- A sum over all rows is the sum over the even rows plus the sum over the odd ones. -/
theorem sum_even_odd (f : Fin 7168 → EReal) :
    ∑ k, f k = ∑ r : Fin 3584, f ⟨2 * r.val, by omega⟩ + ∑ r : Fin 3584, f ⟨1 + 2 * r.val, by omega⟩ := by
  rw [← Finset.sum_add_distrib,
    ← (finProdFinEquiv (m := 3584) (n := 2)).sum_comp (fun k => f k), Fintype.sum_prod_type]
  refine Finset.sum_congr rfl fun r _ => ?_
  rw [Fin.sum_univ_two]
  congr 2 <;> refine Fin.ext ?_ <;> simp [finProdFinEquiv]

/-- A sum over all rows, taken apart by the row's place in its group of 8, its chunk of 256 and its group of the chunk. -/
theorem sum_chunks (f : Fin 7168 → EReal) :
    ∑ k, f k = ∑ j : Fin 8, ∑ i : Fin 28, ∑ u : Fin 32, f ⟨256 * i.val + (u.val * 8 + j.val), by omega⟩ := by
  rw [← (finProdFinEquiv (m := 896) (n := 8)).sum_comp (fun k => f k), Fintype.sum_prod_type, Finset.sum_comm]
  refine Finset.sum_congr rfl fun j _ => ?_
  rw [← (finProdFinEquiv (m := 28) (n := 32)).sum_comp (fun q => f (finProdFinEquiv (m := 896) (n := 8) (q, j))),
    Fintype.sum_prod_type]
  refine Finset.sum_congr rfl fun i _ => Finset.sum_congr rfl fun u _ => ?_
  congr 1
  refine Fin.ext ?_
  simp only [finProdFinEquiv_apply_val]
  omega

/-! ## Codes -/

theorem ref_low : ∀ b : BitVec 8,
    (Scalar.select (IntOp.cmpi .sge (IntOp.andi (BitVec.setWidth 32 b) 15#32) 8#32)
      (IntOp.subi (IntOp.andi (BitVec.setWidth 32 b) 15#32) 16#32) (IntOp.andi (BitVec.setWidth 32 b) 15#32)).toInt
      = (code b 0).toInt := by
  decide

theorem ref_high : ∀ b : BitVec 8,
    (Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)).toInt
      = (code b 1).toInt := by
  decide

theorem kernel_low : ∀ b : BitVec 8, BitVec.setWidth 4 (BitVec.setWidth 32 b) = code b 0 := by
  decide

theorem kernel_high : ∀ b : BitVec 8,
    BitVec.setWidth 4 (IntOp.shrsi .vector (BitVec.setWidth 32 b) 4#32) = code b 1 := by
  decide

end Cert.Spec

end
-- ==== Proof.Chunk.lean ====
module
public import proofs.«01_k».proof.Proof.Gen.KernelIdeal.Skeleton
@[expose] public section
/-!
# The kernel's chunk, named once

The kernel walks 28 chunks of 256 weight rows. Every chunk runs the same operations; the program text cuts them into
pieces at different places. Here the operations get one name each, and each of the program's pieces is shown to be one of
them, by unfolding. The statements hold for any number system `F`.
-/
set_option maxRecDepth 16384
noncomputable section
namespace Cert.KernelIdeal.Value
open Cert.KernelIdeal Cert.KernelIdeal.Gen Idealize.ShloMosaic Idealize.ShloMosaic.TcCoe
variable {F : FTy → Type} [FloatOps F]

/-- One chunk of adapted weights: 128 rows of codes, two rows of scales, 256 rows of the low-rank factor, and the other factor. -/
abbrev weights (c : Vec F S128x256 .i8) (s t : Vec F S1x256 .bf16) (a : Vec F S256x64 .bf16) (b : Vec F S64x256 .bf16) :
    FVec F S256x256 .f32 := k0_pay2 c s t a b

/-- What the kernel keeps of a chunk in its scratch buffer. -/
def stored (v : FVec F S256x256 .f32) : FVec F S256x256 .bf16 :=
  shapeCast S256x256 (truncf .bf16 v bitsLt_bf16_f32) shapeCasts_S256x256_S256x256

/-- The sums of squares before any chunk. -/
def sqZero : FVec F S8x256 .f32 := broadcast S8x256 (Scalar.ofBits .f32 0x00000000#32)

/-- The sums of squares after one more chunk: eight running sums per column. -/
def sqStep (acc : FVec F S8x256 .f32) (v : FVec F S256x256 .f32) : FVec F S8x256 .f32 :=
  addf acc (multiReduction .add [0] S8x256 (shapeCast S32x8x256 (mulf v v) shapeCasts_S256x256_S32x8x256) 0x00000000#32
    reduces_S32x8x256_S8x256 (.inl rfl) rfl)

/-- The norm of each column from its eight running sums. -/
def normOf (acc : FVec F S8x256 .f32) : FVec F S1x256 .f32 :=
  sqrt (shapeCast S1x256 (multiReduction .add [0] S256 acc 0x00000000#32 reduces_S8x256_S256 (.inl rfl) rfl)
    shapeCasts_S256_S1x256)

variable (acc : FVec F S8x256 .f32) (c c' : Vec F S128x256 .i8) (s t s' t' : Vec F S1x256 .bf16)
  (a a' : Vec F S256x64 .bf16) (b b' : Vec F S64x256 .bf16)

/-! ## What goes to the scratch buffer, chunk by chunk -/

theorem pay4_eq : k0_pay4 c s t a b = stored (weights c s t a b) := rfl
theorem pay9_eq : k0_pay9 (k0_pay5 c) k0_pay6 s t a b = stored (weights c s t a b) := rfl
theorem pay13_eq : k0_pay13 (k0_pay10 c) s t a b = stored (weights c s t a b) := rfl
theorem pay20_eq : k0_pay20 (k0_pay15 c s) (k0_pay16 c) (k0_pay17 t) a b = stored (weights c s t a b) := rfl
theorem pay24_eq : k0_pay24 (k0_pay21 c s t) a b = stored (weights c s t a b) := rfl
theorem pay27_eq : k0_pay27 (k0_pay25 c s t a b) = stored (weights c s t a b) := rfl
theorem pay30_eq : k0_pay30 c s t a b = stored (weights c s t a b) := rfl
theorem pay33_eq : k0_pay33 c s t a b = stored (weights c s t a b) := rfl
theorem pay39_eq : k0_pay39 (k0_pay35 c) (k0_pay36 c) s t a b = stored (weights c s t a b) := rfl
theorem pay45_eq : k0_pay45 (k0_pay40 c) (k0_pay41 c) (k0_pay42 s) t a b = stored (weights c s t a b) := rfl
theorem pay49_eq : k0_pay49 (k0_pay46 c s t) a b = stored (weights c s t a b) := rfl
theorem pay53_eq : k0_pay53 (k0_pay50 c s t) (k0_pay51 a b) (FloatOps.ofBits FTy.f32 1073741824#32) = stored (weights c s t a b) := rfl
theorem pay57_eq : k0_pay57 (k0_pay56 c s t a b) = stored (weights c s t a b) := rfl
theorem pay60_eq : k0_pay60 c s t a b = stored (weights c s t a b) := rfl
theorem pay63_eq : k0_pay63 c s t a b = stored (weights c s t a b) := rfl
theorem pay67_eq : k0_pay67 (k0_pay64 c) s t a b = stored (weights c s t a b) := rfl
theorem pay72_eq : k0_pay72 (k0_pay68 c) (k0_pay69 c s) t a b = stored (weights c s t a b) := rfl
theorem pay76_eq : k0_pay76 (k0_pay73 c s t) a b = stored (weights c s t a b) := rfl
theorem pay78_eq : k0_pay78 (k0_pay77 c s t a b) = stored (weights c s t a b) := rfl
theorem pay82_eq : k0_pay82 (k0_pay81 c s t a b) = stored (weights c s t a b) := rfl
theorem pay85_eq : k0_pay85 c s t a b = stored (weights c s t a b) := rfl
theorem pay90_eq : k0_pay90 (k0_pay86 c) k0_pay87 s t a b = stored (weights c s t a b) := rfl
theorem pay94_eq : k0_pay94 (k0_pay91 c) s t a b = stored (weights c s t a b) := rfl
theorem pay101_eq : k0_pay101 (k0_pay96 c s) (k0_pay97 c) (k0_pay98 t) a b = stored (weights c s t a b) := rfl
theorem pay105_eq : k0_pay105 (k0_pay102 c s t) a b = stored (weights c s t a b) := rfl
theorem pay108_eq : k0_pay108 (k0_pay106 c s t a b) = stored (weights c s t a b) := rfl
theorem pay111_eq : k0_pay111 c s t a b = stored (weights c s t a b) := rfl
theorem pay113_eq : k0_pay113 c s t a b = stored (weights c s t a b) := rfl

/-! ## The running sums, chunk by chunk -/

theorem pay3_eq : k0_pay3 c s t a b = (sqStep sqZero (weights c s t a b)) := rfl
theorem pay8_eq : k0_pay8 acc (k0_pay5 c) k0_pay6 s t a b = (sqStep acc (weights c s t a b)) := rfl
theorem pay12_eq : k0_pay12 acc (k0_pay10 c) s t a b = (sqStep acc (weights c s t a b)) := rfl
theorem pay19_eq : k0_pay19 acc (k0_pay15 c s) (k0_pay16 c) (k0_pay17 t) a b = (sqStep acc (weights c s t a b)) := rfl
theorem pay23_eq : k0_pay23 acc (k0_pay21 c s t) a b = (sqStep acc (weights c s t a b)) := rfl
theorem pay29_eq : k0_pay29 acc (k0_pay26 c s t a b) c' s' t' a' b' = (sqStep (sqStep acc (weights c s t a b)) (weights c' s' t' a' b')) := rfl
theorem pay32_eq : k0_pay32 acc c s t a b = (sqStep acc (weights c s t a b)) := rfl
theorem pay38_eq : k0_pay38 acc (k0_pay35 c) (k0_pay36 c) s t a b = (sqStep acc (weights c s t a b)) := rfl
theorem pay44_eq : k0_pay44 acc (k0_pay40 c) (k0_pay41 c) (k0_pay42 s) t a b = (sqStep acc (weights c s t a b)) := rfl
theorem pay48_eq : k0_pay48 acc (k0_pay46 c s t) a b = (sqStep acc (weights c s t a b)) := rfl
theorem pay55_eq : k0_pay55 acc (k0_pay50 c s t) (k0_pay51 a b) (FloatOps.ofBits FTy.f32 1073741824#32) c' s' t' a' b' = (sqStep (sqStep acc (weights c s t a b)) (weights c' s' t' a' b')) := rfl
theorem pay59_eq : k0_pay59 acc c s t a b = (sqStep acc (weights c s t a b)) := rfl
theorem pay62_eq : k0_pay62 acc c s t a b = (sqStep acc (weights c s t a b)) := rfl
theorem pay66_eq : k0_pay66 acc (k0_pay64 c) s t a b = (sqStep acc (weights c s t a b)) := rfl
theorem pay71_eq : k0_pay71 acc (k0_pay68 c) (k0_pay69 c s) t a b = (sqStep acc (weights c s t a b)) := rfl
theorem pay75_eq : k0_pay75 acc (k0_pay73 c s t) a b = (sqStep acc (weights c s t a b)) := rfl
theorem pay80_eq : k0_pay80 acc (k0_pay77 c s t a b) c' s' t' a' b' = (sqStep (sqStep acc (weights c s t a b)) (weights c' s' t' a' b')) := rfl
theorem pay84_eq : k0_pay84 acc c s t a b = (sqStep acc (weights c s t a b)) := rfl
theorem pay89_eq : k0_pay89 acc (k0_pay86 c) k0_pay87 s t a b = (sqStep acc (weights c s t a b)) := rfl
theorem pay93_eq : k0_pay93 acc (k0_pay91 c) s t a b = (sqStep acc (weights c s t a b)) := rfl
theorem pay100_eq : k0_pay100 acc (k0_pay96 c s) (k0_pay97 c) (k0_pay98 t) a b = (sqStep acc (weights c s t a b)) := rfl
theorem pay104_eq : k0_pay104 acc (k0_pay102 c s t) a b = (sqStep acc (weights c s t a b)) := rfl
theorem pay110_eq : k0_pay110 acc (k0_pay107 c s t a b) c' s' t' a' b' = (sqStep (sqStep acc (weights c s t a b)) (weights c' s' t' a' b')) := rfl
theorem pay114_eq : k0_pay114 acc c s t a b = normOf (sqStep acc (weights c s t a b)) := rfl

end Cert.KernelIdeal.Value
-- ==== Proof.Tile.lean ====
module
public import proofs.«01_k».proof.Proof.Chunk
public import proofs.«01_k».proof.Proof.Gen.KernelIdeal.Frame
public import Idealize.ShloMosaic.Lib.Pipeline.Value
public import Idealize.ShloMosaic.Lib.Pointwise
@[expose] public section
/-!
# What one grid point of the kernel leaves in its two output blocks

Grid point `t` works on 256 output columns. From its input blocks it leaves the norms `norms (chunk …)` of the columns, and
the projected rows `project …`, which reads the whole scratch buffer that the 28 chunks have filled.
-/
set_option maxRecDepth 16384
set_option maxHeartbeats 4000000
noncomputable section
namespace Cert.KernelIdeal.Value
open Cert.KernelIdeal Cert.KernelIdeal.Gen Idealize.ShloMosaic Idealize.ShloMosaic.TcCoe Idealize.SL.Sem
variable {F : FTy → Type} [FloatOps F]

theorem inb1 (i : Fin 28) : ∀ a : Fin 2, (![128 * i.val, 0] : Fin 2 → ℕ) a + S128x256.size a ≤ S3584x256.size a := by
  intro a; have := i.isLt; fin_cases a
  · show 128 * i.val + 128 ≤ 3584; omega
  · show 0 + 256 ≤ 256; omega
theorem inb2 (i : Fin 56) : ∀ a : Fin 2, (![i.val, 0] : Fin 2 → ℕ) a + S1x256.size a ≤ S56x256.size a := by
  intro a; have := i.isLt; fin_cases a
  · show i.val + 1 ≤ 56; omega
  · show 0 + 256 ≤ 256; omega
theorem inb3 (i : Fin 28) : ∀ a : Fin 2, (![256 * i.val, 0] : Fin 2 → ℕ) a + S256x64.size a ≤ S7168x64.size a := by
  intro a; have := i.isLt; fin_cases a
  · show 256 * i.val + 256 ≤ 7168; omega
  · show 0 + 64 ≤ 64; omega
theorem inb9 (i : Fin 28) : ∀ a : Fin 2, (![256 * i.val, 0] : Fin 2 → ℕ) a + S256x256.size a ≤ S7168x256.size a := by
  intro a; have := i.isLt; fin_cases a
  · show 256 * i.val + 256 ≤ 7168; omega
  · show 0 + 256 ≤ 256; omega

/-- The two rows of scales that chunk `i` uses. -/
def row0 (i : Fin 28) : Fin 56 := ⟨2 * i.val, by have := i.isLt; omega⟩
def row1 (i : Fin 28) : Fin 56 := ⟨2 * i.val + 1, by have := i.isLt; omega⟩

/-- Chunk `i` of the adapted weights, from the point's input blocks. -/
def chunk (x1 : Vec F S3584x256 .i8) (x2 : Vec F S56x256 .bf16) (x3 : Vec F S7168x64 .bf16) (x4 : Vec F S64x256 .bf16)
    (i : Fin 28) : FVec F S256x256 .f32 :=
  weights (View.ld (Val := Elt F) (e' := .i8) x1 (Rect.unit ![128 * i.val, 0] S128x256.size (inb1 i)))
    (View.ld (Val := Elt F) (e' := .bf16) x2 (Rect.unit ![(row0 i).val, 0] S1x256.size (inb2 (row0 i))))
    (View.ld (Val := Elt F) (e' := .bf16) x2 (Rect.unit ![(row1 i).val, 0] S1x256.size (inb2 (row1 i))))
    (View.ld (Val := Elt F) (e' := .bf16) x3 (Rect.unit ![256 * i.val, 0] S256x64.size (inb3 i)))
    x4

/-- The eight running sums per column after `n` chunks. -/
def sqAcc (V : Fin 28 → FVec F S256x256 .f32) : (n : ℕ) → n ≤ 28 → FVec F S8x256 .f32
  | 0, _ => sqZero
  | n + 1, h => sqStep (sqAcc V n (Nat.le_of_succ_le h)) (V ⟨n, h⟩)

/-- The norms of the point's columns. -/
def norms (V : Fin 28 → FVec F S256x256 .f32) : FVec F S1x256 .f32 := normOf (sqAcc V 28 le_rfl)

/-- The scratch buffer after the 28 chunks: row `256 i + r` is row `r` of chunk `i`. -/
def field (V : Fin 28 → FVec F S256x256 .f32) : FVec F S7168x256 .bf16 := fun y =>
  stored (V ⟨(y 0).val / 256, by have : (y 0).val < 7168 := (y 0).isLt; omega⟩)
    (ix2 ⟨(y 0).val % 256, Nat.mod_lt _ (by decide)⟩ (y 1))

theorem hz : (![0, 0] : Fin 2 → ℕ) = fun _ => 0 := by funext a; fin_cases a <;> rfl

/-- A piece of the scratch buffer agrees with `field`. -/
theorem piece_eq (V : Fin 28 → FVec F S256x256 .f32) (i : Fin 28)
    (x : (Rect.unit (s := S7168x256) ![256 * i.val, 0] S256x256.size (inb9 i)).shape.Idx) :
    stored (V i) x = field V ((Rect.unit (s := S7168x256) ![256 * i.val, 0] S256x256.size (inb9 i)).emb x) := by
  have hx : (x 0).val < 256 := (x 0).isLt
  have h0 : (((Rect.unit (s := S7168x256) ![256 * i.val, 0] S256x256.size (inb9 i)).emb x) 0).val = 256 * i.val + (x 0).val := by
    show 256 * i.val + 1 * (x 0).val = _; omega
  have h1 : (((Rect.unit (s := S7168x256) ![256 * i.val, 0] S256x256.size (inb9 i)).emb x) 1).val = (x 1).val := by
    show 0 + 1 * (x 1).val = _; omega
  unfold field
  have e1 : (⟨(((Rect.unit (s := S7168x256) ![256 * i.val, 0] S256x256.size (inb9 i)).emb x) 0).val / 256,
      by rw [h0]; have := i.isLt; omega⟩ : Fin 28) = i := by
    apply Fin.ext; show _ / 256 = _; rw [h0]; omega
  rw [e1]
  congr 1
  funext a
  fin_cases a
  · apply Fin.ext; show (x 0).val = _ % 256; rw [h0]; omega
  · apply Fin.ext; exact h1.symm

/-- Chunk `i`'s store to the scratch buffer. -/
def piece (V : Fin 28 → FVec F S256x256 .f32) (i : Fin 28) : View.Piece (Elt F) S7168x256 .bf16 :=
  ⟨Rect.unit (s := S7168x256) ![256 * i.val, 0] S256x256.size (inb9 i), stored (V i)⟩

/-- The stores of the first `n` chunks, the last first. -/
def pieces (V : Fin 28 → FVec F S256x256 .f32) : (n : ℕ) → n ≤ 28 → List (View.Piece (Elt F) S7168x256 .bf16)
  | 0, _ => []
  | n + 1, h => piece V ⟨n, h⟩ :: pieces V n (Nat.le_of_succ_le h)

theorem mem_pieces (V : Fin 28 → FVec F S256x256 .f32) : ∀ (n : ℕ) (h : n ≤ 28) (p : View.Piece (Elt F) S7168x256 .bf16),
    p ∈ pieces V n h ↔ ∃ i : Fin 28, i.val < n ∧ p = piece V i
  | 0, _, p => by simp [pieces]
  | n + 1, h, p => by
    rw [pieces, List.mem_cons, mem_pieces V n]
    constructor
    · rintro (rfl | ⟨i, hi, rfl⟩)
      · exact ⟨⟨n, h⟩, Nat.lt_succ_self n, rfl⟩
      · exact ⟨i, Nat.lt_succ_of_lt hi, rfl⟩
    · rintro ⟨i, hi, rfl⟩
      rcases Nat.lt_succ_iff_lt_or_eq.mp hi with hi | hi
      · exact .inr ⟨i, hi, rfl⟩
      · left; congr 1; exact Fin.ext hi

/-- The 28 stores cover the scratch buffer. -/
theorem pieces_cover (V : Fin 28 → FVec F S256x256 .f32) (y : S7168x256.Idx) : ∃ p ∈ pieces V 28 le_rfl, y ∈ p.1.set := by
  have hy : (y 0).val < 7168 := (y 0).isLt
  have hi : (y 0).val / 256 < 28 := by omega
  refine ⟨piece V ⟨(y 0).val / 256, hi⟩, (mem_pieces V 28 _ _).mpr ⟨_, hi, rfl⟩, ?_⟩
  rw [← Rect.map_emb_univ]
  refine Finset.mem_map.mpr ⟨ix2 ⟨(y 0).val % 256, Nat.mod_lt _ (by decide)⟩ (y 1), Finset.mem_univ _, ?_⟩
  funext a
  fin_cases a
  · apply Fin.ext; show 256 * ((y 0).val / 256) + 1 * ((y 0).val % 256) = (y 0).val; omega
  · apply Fin.ext; show 0 + 1 * (y 1).val = (y 1).val; omega

/-- Reading the whole scratch buffer after the 28 stores. -/
theorem read_pieces {sig : RefSig} {κ : Kind} {sp : Space} (v : View sig κ sp S7168x256 .bf16)
    (V : Fin 28 → FVec F S256x256 .f32) :
    v.readCov (pieces V 28 le_rfl) (Rect.unit ![0, 0] S7168x256.size inb_S7168x256_S7168x256_0_0).toLoadRect = field V := by
  rw [View.readCov_eq_canon_ld _ _ _ (pieces_cover V), View.ld_unit_zero hz]
  funext y
  refine View.canon_apply_of_pieces (field V) _ ?_ y (pieces_cover V y)
  intro p hp x
  obtain ⟨i, -, rfl⟩ := (mem_pieces V 28 _ _).mp hp
  exact piece_eq V i x

variable (c : Dev nD) (i : grid0.Coords) (arg1 : Memref sig .tc .vmem S1536x7168 .bf16) (harg1 : arg1.IsWhole)
  (arg2 : Memref sig .tc .vmem S3584x256 .i8) (harg2 : arg2.IsWhole) (arg3 : Memref sig .tc .vmem S56x256 .bf16) (harg3 : arg3.IsWhole)
  (arg4 : Memref sig .tc .vmem S7168x64 .bf16) (harg4 : arg4.IsWhole) (arg5 : Memref sig .tc .vmem S64x256 .bf16) (harg5 : arg5.IsWhole)
  (arg6 : Memref sig .tc .vmem S1x256 .f32) (harg6 : arg6.IsWhole) (arg7 : Memref sig .tc .vmem S1536x256 .bf16) (harg7 : arg7.IsWhole)
  (arg8 : Memref sig .tc .vmem S1x256 .f32) (harg8 : arg8.IsWhole) (arg9 : Memref sig .tc .vmem S7168x256 .bf16) (harg9 : arg9.IsWhole)
  (x0 : Vec F S1536x7168 .bf16) (x1 : Vec F S3584x256 .i8) (x2 : Vec F S56x256 .bf16) (x3 : Vec F S7168x64 .bf16)
  (x4 : Vec F S64x256 .bf16) (x5 : Vec F S1x256 .f32)

/-- The norms a grid point leaves. -/
theorem out7_eq : out0_A_7 c i arg1 harg1 arg2 harg2 arg3 harg3 arg4 harg4 arg5 harg5 arg6 harg6 arg7 harg7 arg8 harg8 arg9 harg9
    x0 x1 x2 x3 x4 x5 = norms (chunk x1 x2 x3 x4) := by
  unfold out0_A_7
  rw [View.read_writes_eq_canon _ _ _ (cover0_A_7 c i arg1 harg1 arg2 harg2 arg3 harg3 arg4 harg4 arg5 harg5 arg6 harg6
    arg7 harg7 arg8 harg8 arg9 harg9 x0 x1 x2 x3 x4 x5)]
  unfold kernelRun0_A
  dsimp only
  sl_unfold_words
  rw [View.canon_unit_zero hz]
  simp only [View.readAt_eq_ld, harg2.read_unread, harg3.read_unread, harg4.read_unread, harg5.read_unread,
    View.ld_unit_zero (S := S64x256) hz]
  simp only [pay3_eq, pay8_eq, pay12_eq, pay19_eq, pay23_eq, pay29_eq, pay32_eq, pay38_eq, pay44_eq, pay48_eq, pay55_eq,
    pay59_eq, pay62_eq, pay66_eq, pay71_eq, pay75_eq, pay80_eq, pay84_eq, pay89_eq, pay93_eq, pay100_eq,
    pay104_eq, pay110_eq, pay114_eq]
  rfl

/-- The projected rows a grid point leaves, from the rows `x`, the stored weights, the norms and the magnitudes. -/
abbrev project (n m : FVec F S1x256 .f32) (x : FVec F S1536x7168 .bf16) (v : FVec F S7168x256 .bf16) : FVec F S1536x256 .bf16 :=
  k0_pay1 n (Scalar.ofBits .f32 0x00000000#32) m x v

/-- The projected rows a grid point leaves. -/
theorem out6_eq : out0_A_6 c i arg1 harg1 arg2 harg2 arg3 harg3 arg4 harg4 arg5 harg5 arg6 harg6 arg7 harg7 arg8 harg8 arg9 harg9
    x0 x1 x2 x3 x4 x5 = project (norms (chunk x1 x2 x3 x4)) x5 x0 (field (chunk x1 x2 x3 x4)) := by
  unfold out0_A_6
  rw [View.read_writes_eq_canon _ _ _ (cover0_A_6 c i arg1 harg1 arg2 harg2 arg3 harg3 arg4 harg4 arg5 harg5 arg6 harg6
    arg7 harg7 arg8 harg8 arg9 harg9 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.ld_unit_zero (S := S64x256) hz, View.ld_unit_zero (S := S1x256) hz, View.ld_unit_zero (S := S1536x7168) hz]
  simp only [pay3_eq, pay8_eq, pay12_eq, pay19_eq, pay23_eq, pay29_eq, pay32_eq, pay38_eq, pay44_eq, pay48_eq, pay55_eq,
    pay59_eq, pay62_eq, pay66_eq, pay71_eq, pay75_eq, pay80_eq, pay84_eq, pay89_eq, pay93_eq, pay100_eq,
    pay104_eq, pay110_eq, pay114_eq,
    pay4_eq, pay9_eq, pay13_eq, pay20_eq, pay24_eq, pay27_eq, pay30_eq, pay33_eq, pay39_eq, pay45_eq, pay49_eq,
    pay53_eq, pay57_eq, pay60_eq, pay63_eq, pay67_eq, pay72_eq, pay76_eq, pay78_eq, pay82_eq, pay85_eq,
    pay90_eq, pay94_eq, pay101_eq, pay105_eq, pay108_eq, pay111_eq, pay113_eq]
  exact congrArg (project (norms (chunk x1 x2 x3 x4)) x5 x0) (read_pieces arg9.view (chunk x1 x2 x3 x4))

end Cert.KernelIdeal.Value
-- ==== Proof.BlockValue.lean ====
/- What one grid point computes, index by index, in the terms of Spec.lean.

   `w0 x1 x2 x3 x4` below is the weight of the block's 256 columns. Chunk `i` of the kernel's unrolled loop is rows
   `256 i .. 256 i + 255` of it (`chunk_apply`), the rounded chunks side by side are all of it (`field_apply`), and the
   squares of the chunks, summed into eight rows and then across them, are the sum over all rows (`norms_apply`). -/
module

public import proofs.«01_k».proof.Proof.Facts
public import proofs.«01_k».proof.Proof.Tile

@[expose] public section

set_option maxRecDepth 16384

noncomputable section

namespace Cert.KernelIdeal.Value

open Cert.KernelIdeal Cert.KernelIdeal.Gen Idealize.ShloMosaic Idealize.ShloMosaic.TcCoe

variable (x1 : Vec Ideal S3584x256 .i8) (x2 : Vec Ideal S56x256 .bf16) (x3 : Vec Ideal S7168x64 .bf16)
  (x4 : Vec Ideal S64x256 .bf16)

/-- The four bits the kernel keeps of row `r`'s word are the code of that row. -/
theorem decode (b : BitVec 8) (r : ℕ) :
    BitVec.setWidth 4 (if _ : r % 2 < 1 then BitVec.setWidth 32 b else IntOp.shrsi .vector (BitVec.setWidth 32 b) 4#32)
      = Spec.code b (r % 2) := by
  split
  · rw [show r % 2 = 0 by omega]
    exact Spec.kernel_low b
  · rw [show r % 2 = 1 by omega]
    exact Spec.kernel_high b

/-- So their conversion to a float is the code, as a number. -/
theorem decode_float (b : BitVec 8) (r : ℕ) :
    (FloatOps.sitofp .bf16 (BitVec.setWidth 4
        (if _ : r % 2 < 1 then BitVec.setWidth 32 b else IntOp.shrsi .vector (BitVec.setWidth 32 b) 4#32)) : Ideal .bf16)
      = (((Spec.code b (r % 2)).toInt : ℝ) : EReal) := by
  rw [decode]
  rfl

/-- Row `r` of chunk `i` is row `256 i + r` of the weight. -/
theorem chunk_apply (i : Fin 28) (r l : Fin 256) :
    chunk x1 x2 x3 x4 i (ix2 r l) = Spec.weight x1 x2 x3 x4 ⟨256 * i.val + r.val, by omega⟩ l := by
  unfold chunk weights k0_pay2
  pointwise
  unfold Spec.weight
  refine congrArg (· + _) ?_
  have h1 : (256 * i.val + r.val) / 2 = 128 * i.val + r.val / 2 := by omega
  have h2 : (256 * i.val + r.val) % 2 = r.val % 2 := by omega
  have h4 : row0 i = ⟨2 * i.val, by omega⟩ := rfl
  have h5 : row1 i = ⟨2 * i.val + 1, by omega⟩ := rfl
  simp only [h1, h2]
  split
  · have h6 : (256 * i.val + r.val) / 128 = 2 * i.val := by omega
    simp only [h4, h6]
    exact congrArg (· * _) (decode_float (x1 (ix2 ⟨128 * i.val + r.val / 2, by omega⟩ l)) r.val)
  · have h3 : 128 + (r.val - 128) = r.val := by omega
    have h6 : (256 * i.val + r.val) / 128 = 2 * i.val + 1 := by omega
    simp only [h3, h5, h6]
    exact congrArg (· * _) (decode_float (x1 (ix2 ⟨128 * i.val + r.val / 2, by omega⟩ l)) r.val)

theorem sqZero_apply (j : Fin 8) (l : Fin 256) : sqZero (F := Ideal) (ix2 j l) = 0 := by
  unfold sqZero
  pointwise

theorem sqStep_apply (acc : FVec Ideal S8x256 .f32) (v : FVec Ideal S256x256 .f32) (j : Fin 8) (l : Fin 256) :
    sqStep acc v (ix2 j l) = acc (ix2 j l) + ∑ u : Fin 32, v (ix2 ⟨u.val * 8 + j.val, by omega⟩ l) * v (ix2 ⟨u.val * 8 + j.val, by omega⟩ l) := by
  unfold sqStep
  pointwise

theorem sqAcc_apply (V : Fin 28 → FVec Ideal S256x256 .f32) (j : Fin 8) (l : Fin 256) : ∀ (n : ℕ) (h : n ≤ 28),
    sqAcc V n h (ix2 j l) = ∑ i : Fin n, ∑ u : Fin 32, V ⟨i.val, by omega⟩ (ix2 ⟨u.val * 8 + j.val, by omega⟩ l) * V ⟨i.val, by omega⟩ (ix2 ⟨u.val * 8 + j.val, by omega⟩ l)
  | 0, _ => by
    rw [sqAcc, sqZero_apply, Fin.sum_univ_zero]
  | n + 1, h => by
    rw [sqAcc, sqStep_apply, sqAcc_apply V j l n, Fin.sum_univ_castSucc (n := n)]
    rfl

theorem normOf_apply (acc : FVec Ideal S8x256 .f32) (l : Fin 256) :
    normOf acc (ix2 0 l) = Ideal.sqrt (∑ j : Fin 8, acc (ix2 j l)) := by
  unfold normOf
  pointwise

theorem stored_apply (v : FVec Ideal S256x256 .f32) (r l : Fin 256) : stored v (ix2 r l) = v (ix2 r l) := by
  unfold stored
  pointwise

/-- The block's second result: the lengths of its columns. -/
theorem norms_apply (l : Fin 256) :
    norms (chunk x1 x2 x3 x4) (ix2 0 l) = Spec.norm (Spec.weight x1 x2 x3 x4) l := by
  unfold norms Spec.norm
  rw [normOf_apply, Spec.sum_chunks]
  simp only [sqAcc_apply, chunk_apply]

/-- The rounded chunks, side by side, are the weight. -/
theorem field_apply (k : Fin 7168) (l : Fin 256) :
    field (chunk x1 x2 x3 x4) (ix2 k l) = Spec.weight x1 x2 x3 x4 k l := by
  unfold field
  refine (stored_apply _ ⟨k.val % 256, by omega⟩ l).trans ((chunk_apply x1 x2 x3 x4 ⟨k.val / 256, by omega⟩ _ l).trans ?_)
  congr 1
  refine Fin.ext ?_
  show 256 * (k.val / 256) + k.val % 256 = k.val
  omega

/-- The block's first result: the layer's output at its columns. -/
theorem project_apply (x0 : FVec Ideal S1536x7168 .bf16) (x5 : FVec Ideal S1x256 .f32) (t : Fin 1536) (l : Fin 256) :
    project (norms (chunk x1 x2 x3 x4)) x5 x0 (field (chunk x1 x2 x3 x4)) (ix2 t l)
      = Spec.dora (Spec.weight x1 x2 x3 x4) (fun k => x0 (ix2 t k)) (x5 (ix2 0 l)) l := by
  unfold project k0_pay1
  pointwise
  unfold Spec.dora
  simp only [norms_apply, field_apply]

end Cert.KernelIdeal.Value

end
-- ==== Proof.KernelValue.lean ====
/- What the kernel's run leaves in its two result arrays, index by index, in the terms of Spec.lean.

   Point `t` of the grid works on columns `256 t .. 256 t + 255`: its blocks of the codes, scales, second low-rank factor and
   magnitudes are those columns of the arrays, and its blocks of the activations and of the first low-rank factor are the
   whole arrays. So what it computes (BlockValue.lean) is those columns of the two results, and the 72 points' blocks cover
   them. The reshapes before and after the pipelined call are read at the end. -/
module

public import proofs.«01_k».proof.Proof.BlockValue
public import Idealize.ShloMosaic.Lib.Pipeline.ValueKit.Geometry

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The blocks, as columns of the arrays -/

/-! Which block of each array point `t` works on: the activations and one low-rank factor whole, else block `t` of the
columns. -/

theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])
theorem index3 : ∀ t : Fin cfg0.N, win0_3.index t = ![0, 0] :=
  (by decide +kernel : ∀ t : Fin grid0.N, win0_3.index t = ![0, 0])
theorem index4 : ∀ t : Fin cfg0.N, win0_4.index t = ![0, t.val] :=
  (by decide +kernel : ∀ t : Fin grid0.N, win0_4.index t = ![0, t.val])
theorem index5 : ∀ t : Fin cfg0.N, win0_5.index t = ![0, t.val] :=
  (by decide +kernel : ∀ t : Fin grid0.N, win0_5.index t = ![0, t.val])
theorem index6 : ∀ t : Fin cfg0.N, win0_6.index t = ![0, t.val] :=
  (by decide +kernel : ∀ t : Fin grid0.N, win0_6.index t = ![0, t.val])
theorem index7 : ∀ t : Fin cfg0.N, win0_7.index t = ![0, t.val] :=
  (by decide +kernel : ∀ t : Fin grid0.N, win0_7.index t = ![0, t.val])

/-- The array's column that column `l` of point `t`'s block is. -/
def column (t : Fin cfg0.N) (l : Fin 256) : Fin 18432 := ⟨t.val * 256 + l.val, by have h : t.val < 72 := t.isLt; omega⟩

theorem column_val (t : Fin cfg0.N) (l : Fin 256) : (column t l).val = t.val * 256 + l.val := rfl

/-! What each input block holds, of the array it is cut from. -/

theorem x_block (c : Dev nD) (t : Fin cfg0.N) (r : Fin 1536) (k : Fin 7168) :
    iblk m c 0 t (ix2 r k) = V m c main_v0 (ix2 r k) := by
  blk_simp [iblk]
  refine congrArg (V m c main_v0) ?_
  blk_ext [index0, column_val]

theorem codes_block (c : Dev nD) (t : Fin cfg0.N) (r : Fin 3584) (l : Fin 256) :
    iblk m c 1 t (ix2 r l) = V m c main_arg1 (ix2 r (column t l)) := by
  blk_simp [iblk]
  refine congrArg (V m c main_arg1) ?_
  blk_ext [index1, column_val]

theorem scales_block (c : Dev nD) (t : Fin cfg0.N) (r : Fin 56) (l : Fin 256) :
    iblk m c 2 t (ix2 r l) = V m c main_arg2 (ix2 r (column t l)) := by
  blk_simp [iblk]
  refine congrArg (V m c main_arg2) ?_
  blk_ext [index2, column_val]

theorem lora_a_block (c : Dev nD) (t : Fin cfg0.N) (k : Fin 7168) (r : Fin 64) :
    iblk m c 3 t (ix2 k r) = V m c main_arg3 (ix2 k r) := by
  blk_simp [iblk]
  refine congrArg (V m c main_arg3) ?_
  blk_ext [index3, column_val]

theorem lora_b_block (c : Dev nD) (t : Fin cfg0.N) (r : Fin 64) (l : Fin 256) :
    iblk m c 4 t (ix2 r l) = V m c main_arg4 (ix2 r (column t l)) := by
  blk_simp [iblk]
  refine congrArg (V m c main_arg4) ?_
  blk_ext [index4, column_val]

theorem magnitude_block (c : Dev nD) (t : Fin cfg0.N) (l : Fin 256) :
    iblk m c 5 t (ix2 0 l) = V m c main_v1 (ix2 0 (column t l)) := by
  blk_simp [iblk]
  refine congrArg (V m c main_v1) ?_
  blk_ext [index5, column_val]

/-- The weight, of device `c`'s arrays. -/
abbrev weightOf (c : Dev nD) : Fin 7168 → Fin 18432 → EReal :=
  Spec.weight (V m c main_arg1) (V m c main_arg2) (V m c main_arg3) (V m c main_arg4)

/-- The weight of point `t`'s block is the weight at the block's columns. -/
theorem weight_block (c : Dev nD) (t : Fin cfg0.N) (k : Fin 7168) (l : Fin 256) :
    Spec.weight (iblk m c 1 t) (iblk m c 2 t) (iblk m c 3 t) (iblk m c 4 t) k l = weightOf m c k (column t l) :=
  Spec.weight_congr (fun r => codes_block m c t r l) (fun r => scales_block m c t r l) (fun k r => lora_a_block m c t k r)
    (fun r => lora_b_block m c t r l) k

/-! ## The two result arrays of the pipelined call -/

/-- The lengths of the columns, as the call's second result. -/
theorem final7 (c : Dev nD) :
    (dats m 0 c).arrAt 7 cfg0.N = fun i : S1x18432.Idx => Spec.norm (weightOf m c) (i 1) := by
  refine (dats m 0 c).arrAt_eq_of_covers 7 _ (by decide +kernel) fun t hf y => ?_
  blk_simp
  rw [after0_7]
  unfold outsAt0
  rw [out7_eq]
  obtain ⟨z, l, rfl⟩ : ∃ (z : Fin 1) (l : Fin 256), y = ix2 z l := ⟨y 0, y 1, eq_ix2 y⟩
  obtain rfl : z = 0 := Subsingleton.elim _ _
  refine (norms_apply _ _ _ _ l).trans ((Spec.norm_congr fun k => weight_block m c t k l).trans ?_)
  refine congrArg (Spec.norm (weightOf m c)) (Fin.ext ?_)
  blk_simp [index7, column_val]

/-- The layer's output, as the call's first result. -/
theorem final6 (c : Dev nD) :
    (dats m 0 c).arrAt 6 cfg0.N = fun i : S1536x18432.Idx =>
      Spec.dora (weightOf m c) (fun k => V m c main_v0 (ix2 (i 0) k)) (V m c main_v1 (ix2 0 (i 1))) (i 1) := by
  refine (dats m 0 c).arrAt_eq_of_covers 6 _ (by decide +kernel) fun t hf y => ?_
  blk_simp
  rw [after0_6]
  unfold outsAt0
  rw [out6_eq]
  obtain ⟨r, l, rfl⟩ : ∃ (r : Fin 1536) (l : Fin 256), y = ix2 r l := ⟨y 0, y 1, eq_ix2 y⟩
  have e0 : (win0_6.blk t).view.emb (ix2 r l) 0 = r := Fin.ext (by blk_simp [index6])
  have e1 : (win0_6.blk t).view.emb (ix2 r l) 1 = column t l := Fin.ext (by blk_simp [index6, column_val])
  rw [e0, e1]
  exact (project_apply _ _ _ _ _ _ r l).trans (Spec.dora_congr (fun k => weight_block m c t k l) (fun k => x_block m c t r k)
    (magnitude_block m c t l))

/-! ## The reshapes around the call -/

theorem V_v0 (c : Dev nD) : V m c main_v0 = shapeCast S1536x7168 (m ((c : Thread nD τ).loc main_arg0)) shapeCasts_S3x512x7168_S1536x7168 := by
  show StableHlo.after _ _ _ = _
  dsimp only [List.flatten, List.append]
  after_results
  rfl

theorem V_v1 (c : Dev nD) : V m c main_v1 = shapeCast S1x18432 (m ((c : Thread nD τ).loc main_arg5)) shapeCasts_S18432_S1x18432 := by
  show StableHlo.after _ _ _ = _
  dsimp only [List.flatten, List.append]
  after_results
  rfl

theorem tail_v3 (c : Dev nD) : Pipeline.afterTail₀ cfgs (dats m) 0 (V0 m) [hostOps1] c main_v3
    = shapeCast S3x512x18432 ((dats m 0 c).arrAt 6 cfg0.N) shapeCasts_S1536x18432_S3x512x18432 := by
  unfold Pipeline.afterTail₀
  dsimp only [List.flatten, List.append]
  after_results
  exact congrArg (fun a => shapeCast S3x512x18432 a shapeCasts_S1536x18432_S3x512x18432)
    (Pipeline.withArrays_arr spec0 winFacts0.arr_inj c (V0 m c) (fun w => (dats m 0 c).arrAt w cfg0.N) 6)

theorem tail_v4 (c : Dev nD) : Pipeline.afterTail₀ cfgs (dats m) 0 (V0 m) [hostOps1] c main_v4
    = shapeCast S18432 ((dats m 0 c).arrAt 7 cfg0.N) shapeCasts_S1x18432_S18432 := by
  unfold Pipeline.afterTail₀
  dsimp only [List.flatten, List.append]
  after_results
  exact congrArg (fun a => shapeCast S18432 a shapeCasts_S1x18432_S18432)
    (Pipeline.withArrays_arr spec0 winFacts0.arr_inj c (V0 m c) (fun w => (dats m 0 c).arrAt w cfg0.N) 7)

/-- The weight, of the arguments as launched. -/
abbrev weightArg (c : Dev nD) : Fin 7168 → Fin 18432 → EReal :=
  Spec.weight (m ((c : Thread nD τ).loc main_arg1)) (m ((c : Thread nD τ).loc main_arg2)) (m ((c : Thread nD τ).loc main_arg3))
    (m ((c : Thread nD τ).loc main_arg4))

theorem weightOf_eq (c : Dev nD) : weightOf m c = weightArg m c := by
  unfold weightOf weightArg
  rw [V_main_arg1, V_main_arg2, V_main_arg3, V_main_arg4]

theorem out_cast (f : FVec Ideal S1536x18432 .bf16) (b : Fin 3) (s : Fin 512) (l : Fin 18432) :
    shapeCast S3x512x18432 f shapeCasts_S1536x18432_S3x512x18432 (ix3 b s l) = f (ix2 ⟨b.val * 512 + s.val, by omega⟩ l) := by
  pointwise

theorem x_cast (f : FVec Ideal S3x512x7168 .bf16) (b : Fin 3) (s : Fin 512) (k : Fin 7168) :
    shapeCast S1536x7168 f shapeCasts_S3x512x7168_S1536x7168 (ix2 ⟨b.val * 512 + s.val, by omega⟩ k) = f (ix3 b s k) := by
  pointwise

theorem norm_cast (f : FVec Ideal S1x18432 .f32) (l : Fin 18432) :
    shapeCast S18432 f shapeCasts_S1x18432_S18432 (ix1 l) = f (ix2 0 l) := by
  pointwise

theorem magnitude_cast (f : FVec Ideal S18432 .f32) (l : Fin 18432) :
    shapeCast S1x18432 f shapeCasts_S18432_S1x18432 (ix2 0 l) = f (ix1 l) := by
  pointwise

/-- The kernel's first result, at an index: the layer's output. -/
theorem v3_apply (c : Dev nD) (b : Fin 3) (s : Fin 512) (l : Fin 18432) :
    Pipeline.afterTail₀ cfgs (dats m) 0 (V0 m) [hostOps1] c main_v3 (ix3 b s l)
      = Spec.dora (weightArg m c) (fun k => m ((c : Thread nD τ).loc main_arg0) (ix3 b s k))
          (m ((c : Thread nD τ).loc main_arg5) (ix1 l)) l := by
  rw [tail_v3, final6, weightOf_eq]
  refine (out_cast _ b s l).trans (Spec.dora_congr (fun _ => rfl) (fun k => ?_) ?_)
  · rw [V_v0]
    exact x_cast _ b s k
  · rw [V_v1]
    exact magnitude_cast _ l

/-- The kernel's second result, at an index: the length of a column of the weight. -/
theorem v4_apply (c : Dev nD) (l : Fin 18432) :
    Pipeline.afterTail₀ cfgs (dats m) 0 (V0 m) [hostOps1] c main_v4 (ix1 l) = Spec.norm (weightArg m c) l := by
  rw [tail_v4, final7, weightOf_eq]
  exact norm_cast _ l

/-! ## The run -/

/-- The layer's output, as an array, of the arguments as launched. -/
def resultY (c : Dev nD) : Buf (Elt Ideal) ((c.tc : Thread nD τ).loc main_v3) := fun i : S3x512x18432.Idx =>
  Spec.dora (weightArg m c) (fun k => m ((c : Thread nD τ).loc main_arg0) (ix3 (i 0) (i 1) k))
    (m ((c : Thread nD τ).loc main_arg5) (ix1 (i 2))) (i 2)

/-- The lengths of the weight's columns, as an array, of the arguments as launched. -/
def resultN (c : Dev nD) : Buf (Elt Ideal) ((c.tc : Thread nD τ).loc main_v4) := fun i : S18432.Idx =>
  Spec.norm (weightArg m c) (i 0)

/-- The kernel's run: the two results are `resultY` and `resultN`, and the arguments are unchanged. -/
theorem run : θ_run defs (onTc (τ := τ) (main (F := Ideal))) ⟨m, fun _ => 0, ρ⟩ fun r => ∀ c : Dev nD,
      r.2.mem ((c.tc : Thread nD τ).loc main_v3) = resultY m c
      ∧ r.2.mem ((c.tc : Thread nD τ).loc main_v4) = resultN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      (h.1.rest_eq c main_v3 (Pipeline.mem_restRefs_of main_v3 (by decide) (by decide))).trans (funext fun i => by
        obtain ⟨b, s, l, rfl⟩ : ∃ (b : Fin 3) (s : Fin 512) (l : Fin 18432), i = ix3 b s l := ⟨i 0, i 1, i 2, eq_ix3 i⟩
        exact v3_apply m c b s l),
      (h.1.rest_eq c main_v4 (Pipeline.mem_restRefs_of main_v4 (by decide) (by decide))).trans (funext fun i => by
        obtain ⟨l, rfl⟩ : ∃ l : Fin 18432, i = ix1 l := ⟨i 0, eq_ix1 i⟩
        exact v4_apply m c l),
      h.2 c⟩)
    (θ_run_and (run_main m ρ) (unchanged m ρ))

end Cert.KernelIdeal.Value

end
-- ==== Proof.RefValue.lean ====
/- The reference's two results, index by index, in the terms of Spec.lean.

   The reference keeps the even and the odd rows of the weight as two arrays of 3584 rows each (`even_apply`, `odd_apply`)
   and adds what it computes from the two. -/
module

public import proofs.«01_k».proof.Proof.Facts
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe

variable (x0 : (⟨S3x512x7168, .bf16⟩ : BufTy).Contents (Elt Ideal)) (x1 : (⟨S3584x18432, .i8⟩ : BufTy).Contents (Elt Ideal))
  (x2 : (⟨S56x18432, .bf16⟩ : BufTy).Contents (Elt Ideal)) (x3 : (⟨S7168x64, .bf16⟩ : BufTy).Contents (Elt Ideal))
  (x4 : (⟨S64x18432, .bf16⟩ : BufTy).Contents (Elt Ideal)) (x5 : (⟨S18432, .f32⟩ : BufTy).Contents (Elt Ideal))

/-- Row `r` of the low-half array is row `2 r` of the weight. -/
theorem even_apply (r : Fin 3584) (l : Fin 18432) :
    val_main_v24 (F := Ideal) x1 x2 x3 x4 (ix2 r l) = Spec.weight x1 x2 x3 x4 ⟨2 * r.val, by omega⟩ l := by
  unfold val_main_v24 val_main_v21 val_main_v23 val_main_v22 val_main_cst val_main_v20 val_main_v19 val_main_v18
    val_main_v17 val_main_v16 val_main_v15 val_main_v7 val_main_v6 val_main_v5 val_main_v4 val_main_v3 val_main_v2
    val_main_v1 val_main_v0 val_main_c val_main_c_0 val_main_c_1
  pointwise
  unfold Spec.weight
  refine congrArg (· + _) (congrArg₂ (· * ·) ?_ ?_)
  · refine congrArg (fun z : ℤ => ((z : ℝ) : EReal)) ((Spec.ref_low _).trans ?_)
    have h2 : 2 * r.val / 2 = r.val := by omega
    have h3 : 2 * r.val % 2 = 0 := by omega
    simp only [h2, h3]
  · have h2 : r.val / 64 = 2 * r.val / 128 := by omega
    simp only [h2]

/-- Row `r` of the high-half array is row `2 r + 1` of the weight. -/
theorem odd_apply (r : Fin 3584) (l : Fin 18432) :
    val_main_v32 (F := Ideal) x1 x2 x3 x4 (ix2 r l) = Spec.weight x1 x2 x3 x4 ⟨1 + 2 * r.val, by omega⟩ l := by
  unfold val_main_v32 val_main_v31 val_main_v30 val_main_cst_5 val_main_v29 val_main_v28 val_main_v27 val_main_v26
    val_main_v25 val_main_v16 val_main_v15 val_main_v14 val_main_v13 val_main_v12 val_main_v11 val_main_v10 val_main_v9
    val_main_v8 val_main_v0 val_main_c_2 val_main_c_3 val_main_c_4
  pointwise
  unfold Spec.weight
  refine congrArg (· + _) (congrArg₂ (· * ·) ?_ ?_)
  · refine congrArg (fun z : ℤ => ((z : ℝ) : EReal)) ((Spec.ref_high _).trans ?_)
    have h2 : (1 + 2 * r.val) / 2 = r.val := by omega
    have h3 : (1 + 2 * r.val) % 2 = 1 := by omega
    simp only [h2, h3]
  · have h2 : r.val / 64 = (1 + 2 * r.val) / 128 := by omega
    simp only [h2]

/-- The reference's second result: the length of each column of the weight. -/
theorem norm_apply (l : Fin 18432) :
    val_main_v38 (F := Ideal) x1 x2 x3 x4 (ix1 l) = Spec.norm (Spec.weight x1 x2 x3 x4) l := by
  unfold val_main_v38 val_main_v37 val_main_v36 val_main_v35 val_main_v34 val_main_v33 val_main_cst_6 val_main_cst_7
  pointwise
  unfold Spec.norm
  rw [Spec.sum_even_odd]
  simp only [even_apply, odd_apply]

/-- The activations times the weight. -/
theorem acc_apply (b : Fin 3) (s : Fin 512) (l : Fin 18432) :
    val_main_v45 (F := Ideal) x0 x1 x2 x3 x4 (ix3 b s l)
      = ∑ k : Fin 7168, x0 (ix3 b s k) * Spec.weight x1 x2 x3 x4 k l := by
  unfold val_main_v45 val_main_v44 val_main_v43 val_main_v42 val_main_v41 val_main_v40 val_main_v39
  pointwise
  rw [Spec.sum_even_odd (fun k => x0 (ix3 b s k) * Spec.weight x1 x2 x3 x4 k l)]
  simp only [even_apply, odd_apply]

/-- The reference's first result: the layer's output. -/
theorem out_apply (b : Fin 3) (s : Fin 512) (l : Fin 18432) :
    val_main_v53 (F := Ideal) x0 x1 x2 x3 x4 x5 (ix3 b s l)
      = Spec.dora (Spec.weight x1 x2 x3 x4) (fun k => x0 (ix3 b s k)) (x5 (ix1 l)) l := by
  unfold val_main_v53 val_main_v52 val_main_v51 val_main_v50 val_main_v49 val_main_v48 val_main_v47 val_main_v46
    val_main_cst_8 val_main_call2_v1 val_main_call2_v0 val_main_cst_9
  dsimp only [id]
  pointwise
  unfold Spec.dora
  simp only [acc_apply, norm_apply]

end Cert.ReferenceIdeal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- The reference is host operations only: its run leaves the arguments alone, and it has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel's two results are the reference's. -/
theorem algebraic : Cert.algebraic_KernelIdeal_ReferenceIdeal := by
  intro m ρ m' ρ' _ hagree
  refine ⟨fun c => Cert.KernelIdeal.Value.resultY m c, fun c => Cert.KernelIdeal.Value.resultN m c,
    Cert.KernelIdeal.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v53_eq, (hagree c).1, (hagree c).2.1, (hagree c).2.2.1, (hagree c).2.2.2.1,
      (hagree c).2.2.2.2.1, (hagree c).2.2.2.2.2]
    funext i
    obtain ⟨b, s, l, rfl⟩ : ∃ (b : Fin 3) (s : Fin 512) (l : Fin 18432), i = ix3 b s l := ⟨i 0, i 1, i 2, eq_ix3 i⟩
    exact Cert.ReferenceIdeal.Read.out_apply _ _ _ _ _ _ b s l
  · rw [Cert.ReferenceIdeal.Read.val_main_v38_eq, (hagree c).2.1, (hagree c).2.2.1, (hagree c).2.2.2.1,
      (hagree c).2.2.2.2.1]
    funext i
    obtain ⟨l, rfl⟩ : ∃ l : Fin 18432, i = ix1 l := ⟨i 0, eq_ix1 i⟩
    exact Cert.ReferenceIdeal.Read.norm_apply _ _ _ _ l

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
